-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x6912 : Shape := ⟨3, ![3, 1024, 6912]⟩
abbrev S6912x1024 : Shape := ⟨2, ![6912, 1024]⟩
abbrev S1024 : Shape := ⟨1, ![1024]⟩
abbrev S3x1024x1024 : Shape := ⟨3, ![3, 1024, 1024]⟩
abbrev S3072x6912 : Shape := ⟨2, ![3072, 6912]⟩
abbrev S1x1024 : Shape := ⟨2, ![1, 1024]⟩
abbrev S3072x1024 : Shape := ⟨2, ![3072, 1024]⟩
abbrev S3072x768 : Shape := ⟨2, ![3072, 768]⟩
abbrev S768x1024 : Shape := ⟨2, ![768, 1024]⟩
abbrev S512x1024 : Shape := ⟨2, ![512, 1024]⟩
abbrev S512x768 : Shape := ⟨2, ![512, 768]⟩
abbrev S3072x256 : Shape := ⟨2, ![3072, 256]⟩
abbrev S768x256 : Shape := ⟨2, ![768, 256]⟩
abbrev S1x256 : Shape := ⟨2, ![1, 256]⟩

abbrev nBuf : Space → Nat
  | .hbm => 11
  | .vmem => 15
  | .smem => 0
  | _ => 0

abbrev bufTy : (tb : Table) → Fin (tcTables nBuf tb) → BufTy
  | .hbm, ⟨0, _⟩ => ⟨S3x1024x6912, .bf16⟩
  | .hbm, ⟨1, _⟩ => ⟨S6912x1024, .f32⟩
  | .hbm, ⟨2, _⟩ => ⟨S1024, .f32⟩
  | .hbm, ⟨3, _⟩ => ⟨S3x1024x1024, .bf16⟩
  | .hbm, ⟨4, _⟩ => ⟨S3072x6912, .bf16⟩
  | .hbm, ⟨5, _⟩ => ⟨S1x1024, .f32⟩
  | .hbm, ⟨6, _⟩ => ⟨S3072x1024, .bf16⟩
  | .hbm, ⟨7, _⟩ => ⟨S3072x1024, .bf16⟩
  | .hbm, ⟨8, _⟩ => ⟨S3072x6912, .bf16⟩
  | .hbm, ⟨9, _⟩ => ⟨S6912x1024, .f32⟩
  | .hbm, ⟨10, _⟩ => ⟨S6912x1024, .fp8e4m3⟩
  | .local _ .vmem, ⟨0, _⟩ => ⟨S3072x768, .bf16⟩
  | .local _ .vmem, ⟨1, _⟩ => ⟨S3072x768, .bf16⟩
  | .local _ .vmem, ⟨2, _⟩ => ⟨S768x1024, .f32⟩
  | .local _ .vmem, ⟨3, _⟩ => ⟨S768x1024, .f32⟩
  | .local _ .vmem, ⟨4, _⟩ => ⟨S1x1024, .f32⟩
  | .local _ .vmem, ⟨5, _⟩ => ⟨S3072x1024, .bf16⟩
  | .local _ .vmem, ⟨6, _⟩ => ⟨S3072x1024, .bf16⟩
  | .local _ .vmem, ⟨7, _⟩ => ⟨S3072x768, .bf16⟩
  | .local _ .vmem, ⟨8, _⟩ => ⟨S3072x768, .bf16⟩
  | .local _ .vmem, ⟨9, _⟩ => ⟨S768x1024, .f32⟩
  | .local _ .vmem, ⟨10, _⟩ => ⟨S768x1024, .f32⟩
  | .local _ .vmem, ⟨11, _⟩ => ⟨S768x1024, .fp8e4m3⟩
  | .local _ .vmem, ⟨12, _⟩ => ⟨S768x1024, .fp8e4m3⟩
  | .local _ .vmem, ⟨13, _⟩ => ⟨S3072x1024, .f32⟩
  | .local _ .vmem, ⟨14, _⟩ => ⟨S768x1024, .bf16⟩
  | _, _ => ⟨S3x1024x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v174 : BitVec 1 := Scalar.cmpi .eq arg0 c8_i32
  let v175 : BitVec 32 := Scalar.extui v174
  let c0_i32_133 : BitVec 32 := 0#32
  let v176 : BitVec 1 := Scalar.cmpi .ne v175 c0_i32_133
  v176

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3072x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x1024x6912 : Shape := ⟨3, ![3, 1024, 6912]⟩
abbrev S6912x1024 : Shape := ⟨2, ![6912, 1024]⟩
abbrev S1024 : Shape := ⟨1, ![1024]⟩
abbrev S3x1024x1024 : Shape := ⟨3, ![3, 1024, 1024]⟩
abbrev S3072x6912 : Shape := ⟨2, ![3072, 6912]⟩
abbrev S1x1024 : Shape := ⟨2, ![1, 1024]⟩
abbrev S3072x1024 : Shape := ⟨2, ![3072, 1024]⟩

abbrev nBuf : Space → Nat
  | .hbm => 11
  | .vmem => 8
  | .smem => 0
  | _ => 0

abbrev bufTy : (tb : Table) → Fin (tcTables nBuf tb) → BufTy
  | .hbm, ⟨0, _⟩ => ⟨S3x1024x6912, .bf16⟩
  | .hbm, ⟨1, _⟩ => ⟨S6912x1024, .f32⟩
  | .hbm, ⟨2, _⟩ => ⟨S1024, .f32⟩
  | .hbm, ⟨3, _⟩ => ⟨S3x1024x1024, .bf16⟩
  | .hbm, ⟨4, _⟩ => ⟨S3072x6912, .bf16⟩
  | .hbm, ⟨5, _⟩ => ⟨S1x1024, .f32⟩
  | .hbm, ⟨6, _⟩ => ⟨S3072x1024, .bf16⟩
  | .hbm, ⟨7, _⟩ => ⟨S3072x1024, .bf16⟩
  | .hbm, ⟨8, _⟩ => ⟨S3072x6912, .bf16⟩
  | .hbm, ⟨9, _⟩ => ⟨S6912x1024, .f32⟩
  | .hbm, ⟨10, _⟩ => ⟨S6912x1024, .fp8e4m3⟩
  | .local _ .vmem, ⟨0, _⟩ => ⟨S3072x6912, .bf16⟩
  | .local _ .vmem, ⟨1, _⟩ => ⟨S6912x1024, .f32⟩
  | .local _ .vmem, ⟨2, _⟩ => ⟨S1x1024, .f32⟩
  | .local _ .vmem, ⟨3, _⟩ => ⟨S3072x1024, .bf16⟩
  | .local _ .vmem, ⟨4, _⟩ => ⟨S3072x1024, .bf16⟩
  | .local _ .vmem, ⟨5, _⟩ => ⟨S3072x6912, .bf16⟩
  | .local _ .vmem, ⟨6, _⟩ => ⟨S6912x1024, .f32⟩
  | .local _ .vmem, ⟨7, _⟩ => ⟨S6912x1024, .fp8e4m3⟩
  | _, _ => ⟨S3x1024x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6912x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6912x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelBlocks.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

/-! What one grid point leaves in each of the kernel's buffers, over the blocks it reads. -/

namespace Cert.KernelIdeal.BlockValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Entry `(r, d)` of one block of the input gradient: row `r` of the upstream gradient times row `d` of the weights' block. -/
def dxAt (g : Vec Ideal S3072x1024 .bf16) (q : Vec Ideal S768x1024 .bf16) (r : Fin 3072) (d : Fin 768) : EReal :=
  ∑ k : Fin 1024, g (ix2 r k) * q (ix2 d k)

/-- Entry `(r, o)` of one block's share of the product: row `r` of the inputs' block times column `o` of the weights' block. -/
def yAt (x : Vec Ideal S3072x768 .bf16) (q : Vec Ideal S768x1024 .bf16) (r : Fin 3072) (o : Fin 1024) : EReal :=
  ∑ k : Fin 768, x (ix2 r k) * q (ix2 k o)

/-- Entry `(d, o)` of one block of the weight gradient: column `d` of the inputs' block times column `o` of the upstream gradient where the scaled
    weight is in range, zero elsewhere. -/
def dwAt (x : Vec Ideal S3072x768 .bf16) (g : Vec Ideal S3072x1024 .bf16) (w : Vec Ideal S768x1024 .f32) (s : Vec Ideal S1x1024 .f32)
    (d : Fin 768) (o : Fin 1024) : EReal :=
  if (FloatOps.absf (w (ix2 d o) : Ideal .f32) : Ideal .f32) * Ideal.div 1 (s (ix2 0 o)) ≤ Ideal.ofBits .f32 0x43E00000#32 then ∑ k : Fin 3072, x (ix2 k d) * g (ix2 k o) else 0

/-- A grid point is the first, the last, or one between them. -/
theorem point_cases (t : Fin cfg0.N) :
    (t.val % 9 = 0 ∧ ¬t.val % 9 = 8) ∨ (¬t.val % 9 = 0 ∧ ¬t.val % 9 = 8) ∨ (¬t.val % 9 = 0 ∧ t.val % 9 = 8) := by
  omega

/-- What every point leaves in the codes' buffer: the quantised weights' block. -/
theorem codes_block (c : Dev nD) (t : Fin cfg0.N) :
    (outsAt0 m c t.val t.isLt).2.2.2.1 = k0_pay4 (iblk m c 2 t) (iblk m c 1 t) := by
  rcases point_cases t with ⟨h0, h1⟩ | ⟨h0, h1⟩ | ⟨h0, h1⟩
  · rw [outsAt0_A m c t h0 h1]
    frame_out
  · rw [outsAt0_B m c t h0 h1]
    frame_out
  · rw [outsAt0_C m c t h0 h1]
    frame_out

/-- What every point leaves in the input gradient's buffer, entry by entry: six chunks of 512 rows, each the product of those rows. -/
theorem dx_block (c : Dev nD) (t : Fin cfg0.N) (r : Fin 3072) (d : Fin 768) :
    (outsAt0 m c t.val t.isLt).2.1 (ix2 r d) = dxAt (iblk m c 3 t) (k0_pay5 (iblk m c 2 t) (iblk m c 1 t)) r d := by
  rcases point_cases t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    generalize k0_pay5 (iblk m c 2 t) (iblk m c 1 t) = q
    generalize iblk m c 3 t = g
    clear h0 h1
    canon_tiles x h
    all_goals
      idx_vars x
      pointwise [k0_pay8, k0_pay10, k0_pay12, k0_pay14, k0_pay16, k0_pay18, dxAt] at h0 h1 ⊢
      refine Finset.sum_congr rfl fun k _ => ?_
      congr 1 <;> blk_ext

/-- What every point leaves in the weight gradient's buffer, entry by entry: four chunks of 256 columns. -/
theorem dw_block (c : Dev nD) (t : Fin cfg0.N) (d : Fin 768) (o : Fin 1024) :
    (outsAt0 m c t.val t.isLt).2.2.1 (ix2 d o) = dwAt (iblk m c 0 t) (iblk m c 3 t) (iblk m c 1 t) (iblk m c 2 t) d o := by
  rcases point_cases t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    generalize iblk m c 0 t = X
    generalize iblk m c 1 t = W
    generalize iblk m c 2 t = S
    generalize iblk m c 3 t = g
    clear h0 h1
    canon_tiles x h
    all_goals
      idx_vars x
      pointwise [k0_pay1, k0_pay19, k0_pay20, k0_pay21, dwAt] at h0 h1 ⊢
      obtain ⟨o, ho⟩ := o
      dsimp only at h1
      subst h1
      obtain rfl := Fin.ext h0
      rfl

/-- The first point zeroes the running sum and adds its own share, in six chunks of 512 rows. -/
theorem acc_first (c : Dev nD) (t : Fin cfg0.N) (h : t.val % 9 = 0) (r : Fin 3072) (o : Fin 1024) :
    (outsAt0 m c t.val t.isLt).2.2.2.2 (ix2 r o) = 0 + yAt (iblk m c 0 t) (k0_pay5 (iblk m c 2 t) (iblk m c 1 t)) r o := by
  rw [outsAt0_A m c t h (by omega)]
  frame_open
  simp (disch := decide) only [↓ View.readCov_skip, ↓ View.readCov_cons_toLoadRect, ↓ View.readCov_fill]
  frame_out
  generalize k0_pay5 (iblk m c 2 t) (iblk m c 1 t) = q
  generalize iblk m c 0 t = X
  refine View.canon_append_of_piecesOf (Val := Elt Ideal) (s := S3072x1024) (e := .f32) (fun i => 0 + yAt X q (i 0) (i 1)) [_] [_, _, _, _, _, _]
    ⟨fun x => ?_, fun x => ?_, fun x => ?_, fun x => ?_, fun x => ?_, fun x => ?_, trivial⟩ _ ?_
  on_goal 7 => exact View.cover_of_tiledL (s := S3072x1024) _ ![512, 1024] (by sl_kernel_rfl) _
  all_goals
    idx_vars x
    pointwise [k0_pay6, k0_pay7, k0_pay9, k0_pay11, k0_pay13, k0_pay15, k0_pay17, yAt]
    refine Finset.sum_congr rfl fun k _ => ?_
    congr 1 <;> blk_ext

/-- Every later point adds its own share to what the point before left. -/
theorem acc_next (c : Dev nD) (t : Fin cfg0.N) (h : ¬t.val % 9 = 0) (r : Fin 3072) (o : Fin 1024) :
    (outsAt0 m c t.val t.isLt).2.2.2.2 (ix2 r o)
      = (outsAt0 m c (t.val - 1) (Nat.lt_of_le_of_lt (Nat.sub_le _ _) t.isLt)).2.2.2.2 (ix2 r o)
        + yAt (iblk m c 0 t) (k0_pay5 (iblk m c 2 t) (iblk m c 1 t)) r o := by
  rcases point_cases t with ⟨h0, h1⟩ | ⟨h0, h1⟩ | ⟨h0, h1⟩
  · exact absurd h0 h
  on_goal 1 => rw [outsAt0_B m c t h0 h1]
  on_goal 2 => rw [outsAt0_C m c t h0 h1]
  all_goals
    frame_out
    simp only [read_unread_whole]
    generalize k0_pay5 (iblk m c 2 t) (iblk m c 1 t) = q
    generalize iblk m c 0 t = X
    generalize (outsAt0 m c (t.val - 1) _).2.2.2.2 = a
    clear h h0 h1
    canon_tiles x h
    all_goals
      idx_vars x
      pointwise [k0_pay7, k0_pay9, k0_pay11, k0_pay13, k0_pay15, k0_pay17, yAt] at h0 h1 ⊢
      obtain ⟨r, hr⟩ := r
      dsimp only at h0
      subst h0
      obtain rfl := Fin.ext h1
      rfl

/-- The last point copies the running sum to the product's buffer. -/
theorem y_last (c : Dev nD) (t : Fin cfg0.N) (h : t.val % 9 = 8) (r : Fin 3072) (o : Fin 1024) :
    (outsAt0 m c t.val t.isLt).1 (ix2 r o) = (outsAt0 m c t.val t.isLt).2.2.2.2 (ix2 r o) := by
  rw [outsAt0_C m c t (by omega) h]
  frame_out
  rw [View.readCov_eq_canon']
  pointwise [k0_pay2]

end Cert.KernelIdeal.BlockValue

end
-- ==== Proof.Spec.lean ====
module

public import Idealize.ShloMosaic.Lib.Pointwise

@[expose] public section

noncomputable section

/-! The results of the linear layer with quantised weights over the extended reals, entry by entry: inputs `X` (3072 rows of 6912), weights `W`
    (6912 by 1024), one scale per output feature `s`, upstream gradient `G` (3072 rows of 1024). -/

namespace Cert.Spec

open Idealize.ShloMosaic

/-- A weight's code: the weight over its scale, clipped to the range of the eight-bit format (448 in absolute value). -/
def code (w s : EReal) : EReal :=
  min (Ideal.ofBits .f32 0x43E00000#32) (max (Ideal.ofBits .f32 0xC3E00000#32) (w * Ideal.div 1 s))

/-- Entry `(r, o)` of the product: row `r` of the inputs times column `o` of the dequantised weights. -/
def product (X : Fin 3072 → Fin 6912 → EReal) (W : Fin 6912 → Fin 1024 → EReal) (s : Fin 1024 → EReal) (r : Fin 3072) (o : Fin 1024) : EReal :=
  ∑ k : Fin 6912, X r k * (code (W k o) (s o) * s o)

/-- Entry `(r, d)` of the input gradient: row `r` of the upstream gradient times row `d` of the dequantised weights. -/
def inputGrad (G : Fin 3072 → Fin 1024 → EReal) (W : Fin 6912 → Fin 1024 → EReal) (s : Fin 1024 → EReal) (r : Fin 3072) (d : Fin 6912) : EReal :=
  ∑ k : Fin 1024, G r k * (code (W d k) (s k) * s k)

/-- Entry `(d, o)` of the weight gradient: column `d` of the inputs times column `o` of the upstream gradient where the scaled weight is in range, zero
    where clipping took effect. -/
def weightGrad (X : Fin 3072 → Fin 6912 → EReal) (G : Fin 3072 → Fin 1024 → EReal) (W : Fin 6912 → Fin 1024 → EReal) (s : Fin 1024 → EReal)
    (d : Fin 6912) (o : Fin 1024) : EReal :=
  if (FloatOps.absf (W d o : Ideal .f32) : Ideal .f32) * Ideal.div 1 (s o) ≤ Ideal.ofBits .f32 0x43E00000#32 then ∑ k : Fin 3072, X k d * G k o else 0

end Cert.Spec

end
-- ==== Proof.KernelArrays.lean ====
module

public import proofs.«01_k».proof.Proof.KernelBlocks
public import proofs.«01_k».proof.Proof.Spec

@[expose] public section

set_option maxRecDepth 16384

noncomputable section

/-! The four arrays the kernel leaves, entry by entry, over the operands as it reads them: point `t` handles features `768 t` to `768 t + 767`. -/

namespace Cert.KernelIdeal.ArrayValue

open Cert.KernelIdeal Cert.KernelIdeal.Gen Cert.KernelIdeal.BlockValue Idealize.ShloMosaic Idealize.ShloMosaic.TcCoe Idealize.SL.Sem
open Idealize.ShloMosaic.Pipeline (Dat)

variable (m : (ℓ : Loc nD τ sig) → Buf (Elt Ideal) ℓ)

/-- The inputs as the kernel reads them, rows by features. -/
def xs (c : Dev nD) (r : Fin 3072) (d : Fin 6912) : EReal := V m c main_v0 (ix2 r d)
/-- The weights as the kernel reads them. -/
def ws (c : Dev nD) (d : Fin 6912) (o : Fin 1024) : EReal := V m c main_arg1 (ix2 d o)
/-- The scales as the kernel reads them. -/
def ss (c : Dev nD) (o : Fin 1024) : EReal := V m c main_v1 (ix2 0 o)
/-- The upstream gradient as the kernel reads it, rows by features. -/
def gs (c : Dev nD) (r : Fin 3072) (o : Fin 1024) : EReal := V m c main_v2 (ix2 r o)

/-- Point `t` reads the inputs' column block `t`. -/
theorem idx_x : ∀ t : Fin cfg0.N, win0_0.index t = ![0, t.val] := by decide +kernel
/-- Point `t` reads the weights' row block `t`. -/
theorem idx_w : ∀ t : Fin cfg0.N, win0_1.index t = ![t.val, 0] := by decide +kernel
/-- Every point reads the whole row of scales. -/
theorem idx_s : ∀ t : Fin cfg0.N, win0_2.index t = ![0, 0] := by decide +kernel
/-- Every point reads the whole upstream gradient. -/
theorem idx_g : ∀ t : Fin cfg0.N, win0_3.index t = ![0, 0] := by decide +kernel

/-- Feature `d` of point `t`'s block lies within the 6912 features. -/
theorem lane_lt (t : Fin cfg0.N) (d : Fin 768) : t.val * 768 + d.val < 6912 := by
  have := t.isLt
  have := d.isLt
  have : cfg0.N = 9 := N_0
  omega

/-- Feature `d` of point `t`'s block is feature `768 t + d` of the whole. -/
def lane (t : Fin cfg0.N) (d : Fin 768) : Fin 6912 := ⟨t.val * 768 + d.val, lane_lt t d⟩

/-- The inputs' block at a point, entry by entry. -/
theorem x_read (c : Dev nD) (t : Fin cfg0.N) (r : Fin 3072) (d : Fin 768) : iblk m c 0 t (ix2 r d) = xs m c r (lane t d) := by
  unfold xs lane
  blk_ext [iblk, idx_x t]

/-- The weights' block at a point, entry by entry. -/
theorem w_read (c : Dev nD) (t : Fin cfg0.N) (d : Fin 768) (o : Fin 1024) : iblk m c 1 t (ix2 d o) = ws m c (lane t d) o := by
  unfold ws lane
  blk_ext [iblk, idx_w t]

/-- The scales at a point, entry by entry. -/
theorem s_read (c : Dev nD) (t : Fin cfg0.N) (o : Fin 1024) : iblk m c 2 t (ix2 0 o) = ss m c o := by
  unfold ss
  blk_ext [iblk, idx_s t]

/-- The upstream gradient at a point, entry by entry. -/
theorem g_read (c : Dev nD) (t : Fin cfg0.N) (r : Fin 3072) (o : Fin 1024) : iblk m c 3 t (ix2 r o) = gs m c r o := by
  unfold gs
  blk_ext [iblk, idx_g t]

/-- The codes a point computes, entry by entry. -/
theorem code_read (c : Dev nD) (t : Fin cfg0.N) (d : Fin 768) (o : Fin 1024) :
    k0_pay4 (iblk m c 2 t) (iblk m c 1 t) (ix2 d o) = Spec.code (ws m c (lane t d) o) (ss m c o) := by
  rw [← w_read, ← s_read m c t]
  pointwise [k0_pay4, k0_pay3, Spec.code]

/-- The dequantised weights a point computes, entry by entry. -/
theorem deq_read (c : Dev nD) (t : Fin cfg0.N) (d : Fin 768) (o : Fin 1024) :
    k0_pay5 (iblk m c 2 t) (iblk m c 1 t) (ix2 d o) = Spec.code (ws m c (lane t d) o) (ss m c o) * ss m c o := by
  rw [← w_read, ← s_read m c t]
  pointwise [k0_pay5, k0_pay4, k0_pay3, Spec.code]

/-- A sum over the points and over the features of each point's block is the sum over all features. -/
theorem sum_lanes (f : Fin 6912 → EReal) : ∑ t : Fin cfg0.N, ∑ k : Fin 768, f (lane t k) = ∑ k : Fin 6912, f k :=
  Fin.sum_mul_add_congr (fun t k hl => rfl) (by rw [show cfg0.N = 9 from N_0])

/-- The running sum after the last point is the whole product. -/
theorem acc_last (c : Dev nD) (r : Fin 3072) (o : Fin 1024) :
    (outsAt0 m c t0_8.val t0_8.isLt).2.2.2.2 (ix2 r o) = Spec.product (xs m c) (ws m c) (ss m c) r o := by
  rw [Pipeline.eq_sum_fin_of_reset_step_apply_last (fun n h => fun p : Fin 3072 × Fin 1024 => (outsAt0 m c n h).2.2.2.2 (ix2 p.1 p.2)) 9 (fun _ => (0 : EReal))
    (fun t p => yAt (iblk m c 0 t) (k0_pay5 (iblk m c 2 t) (iblk m c 1 t)) p.1 p.2)
    (fun t h p => acc_first m c t h p.1 p.2) (fun t h p => acc_next m c t h p.1 p.2) (le_of_eq N_0) t0_8 rfl (r, o), zero_add]
  unfold yAt Spec.product
  simp only [x_read, deq_read]
  exact sum_lanes fun k => xs m c r k * (Spec.code (ws m c k o) (ss m c o) * ss m c o)

/-- Every point's block of the product is the whole product. -/
theorem idx_y : ∀ t : Fin cfg0.N, win0_4.index t = ![0, 0] := by decide +kernel
/-- Point `t` writes the input gradient's column block `t`. -/
theorem idx_dx : ∀ t : Fin cfg0.N, win0_5.index t = ![0, t.val] := by decide +kernel
/-- Point `t` writes the weight gradient's row block `t`. -/
theorem idx_dw : ∀ t : Fin cfg0.N, win0_6.index t = ![t.val, 0] := by decide +kernel
/-- Point `t` writes the codes' row block `t`. -/
theorem idx_codes : ∀ t : Fin cfg0.N, win0_7.index t = ![t.val, 0] := by decide +kernel

/-- The product's array. -/
theorem y_array (c : Dev nD) :
    (dats m 0 c).arrAt 4 cfg0.N = fun i => Spec.product (xs m c) (ws m c) (ss m c) (i 0) (i 1) := by
  refine (dats m 0 c).arrAt_eq_of_after_last 4 t0_8 (by decide +kernel) _ fun j => ?_
  blk_simp
  rw [after0_4]
  idx_vars j
  exact (y_last m c t0_8 rfl j0 j1).trans (acc_last m c j0 j1)

/-- The input gradient's array. -/
theorem dx_array (c : Dev nD) :
    (dats m 0 c).arrAt 5 cfg0.N = fun i => Spec.inputGrad (gs m c) (ws m c) (ss m c) (i 0) (i 1) := by
  refine (dats m 0 c).arrAt_eq_of_covers 5 _ (by decide +kernel) fun t hf y => ?_
  blk_simp
  rw [after0_5]
  idx_vars y
  rw [dx_block]
  have e : ((View.whole main_v3_1).slice (win0_5.rect t)).emb (ix2 y0 y1) = ix2 y0 (lane t y1) := by
    unfold lane
    blk_ext [idx_dx t]
  rw [e]
  unfold dxAt Spec.inputGrad
  simp only [g_read, deq_read]
  rfl

/-- The weight gradient's array. -/
theorem dw_array (c : Dev nD) :
    (dats m 0 c).arrAt 6 cfg0.N = fun i => Spec.weightGrad (xs m c) (gs m c) (ws m c) (ss m c) (i 0) (i 1) := by
  refine (dats m 0 c).arrAt_eq_of_covers 6 _ (by decide +kernel) fun t hf y => ?_
  blk_simp
  rw [after0_6]
  idx_vars y
  rw [dw_block]
  have e : ((View.whole main_v3_2).slice (win0_6.rect t)).emb (ix2 y0 y1) = ix2 (lane t y0) y1 := by
    unfold lane
    blk_ext [idx_dw t]
  rw [e]
  unfold dwAt Spec.weightGrad
  simp only [x_read, g_read, w_read, s_read]
  rfl

/-- The codes' array. -/
theorem codes_array (c : Dev nD) :
    (dats m 0 c).arrAt 7 cfg0.N = fun i => Spec.code (ws m c (i 0) (i 1)) (ss m c (i 1)) := by
  refine (dats m 0 c).arrAt_eq_of_covers 7 _ (by decide +kernel) fun t hf y => ?_
  blk_simp
  rw [after0_7, codes_block]
  idx_vars y
  have e : ((View.whole main_v3_3).slice (win0_7.rect t)).emb (ix2 y0 y1) = ix2 (lane t y0) y1 := by
    unfold lane
    blk_ext [idx_codes t]
  rw [e]
  exact code_read m c t y0 y1

end Cert.KernelIdeal.ArrayValue

end
-- ==== Proof.ReferenceArrays.lean ====
module

public import proofs.«01_k».proof.Proof.Gen.ReferenceIdeal.Value
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

/-! The four arrays the reference leaves, entry by entry: its one grid point reads every operand whole and stores every result whole. -/

namespace Cert.ReferenceIdeal.ArrayValue

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- The inputs as the reference reads them, rows by features. -/
def xs (c : Dev nD) (r : Fin 3072) (d : Fin 6912) : EReal := V m c main_v0 (ix2 r d)
/-- The weights as the reference reads them. -/
def ws (c : Dev nD) (d : Fin 6912) (o : Fin 1024) : EReal := V m c main_arg1 (ix2 d o)
/-- The scales as the reference reads them. -/
def ss (c : Dev nD) (o : Fin 1024) : EReal := V m c main_v1 (ix2 0 o)
/-- The upstream gradient as the reference reads it, rows by features. -/
def gs (c : Dev nD) (r : Fin 3072) (o : Fin 1024) : EReal := V m c main_v2 (ix2 r o)

/-- The point's block of the inputs is all of them. -/
theorem idx_x : ∀ t : Fin cfg0.N, win0_0.index t = ![0, 0] := by decide +kernel
/-- The point's block of the weights is all of them. -/
theorem idx_w : ∀ t : Fin cfg0.N, win0_1.index t = ![0, 0] := by decide +kernel
/-- The point's block of the scales is all of them. -/
theorem idx_s : ∀ t : Fin cfg0.N, win0_2.index t = ![0, 0] := by decide +kernel
/-- The point's block of the upstream gradient is all of it. -/
theorem idx_g : ∀ t : Fin cfg0.N, win0_3.index t = ![0, 0] := by decide +kernel

/-- The inputs, entry by entry. -/
theorem x_read (c : Dev nD) (t : Fin cfg0.N) (r : Fin 3072) (d : Fin 6912) : iblk m c 0 t (ix2 r d) = xs m c r d := by
  unfold xs
  blk_ext [iblk, idx_x t]

/-- The weights, entry by entry. -/
theorem w_read (c : Dev nD) (t : Fin cfg0.N) (d : Fin 6912) (o : Fin 1024) : iblk m c 1 t (ix2 d o) = ws m c d o := by
  unfold ws
  blk_ext [iblk, idx_w t]

/-- The scales, entry by entry. -/
theorem s_read (c : Dev nD) (t : Fin cfg0.N) (o : Fin 1024) : iblk m c 2 t (ix2 0 o) = ss m c o := by
  unfold ss
  blk_ext [iblk, idx_s t]

/-- The upstream gradient, entry by entry. -/
theorem g_read (c : Dev nD) (t : Fin cfg0.N) (r : Fin 3072) (o : Fin 1024) : iblk m c 3 t (ix2 r o) = gs m c r o := by
  unfold gs
  blk_ext [iblk, idx_g t]

variable (x : Vec Ideal S3072x6912 .bf16) (w : Vec Ideal S6912x1024 .f32) (s : Vec Ideal S1x1024 .f32) (g : Vec Ideal S3072x1024 .bf16)

/-- The product of arbitrary operands, entry by entry. -/
theorem out_y (r : Fin 3072) (o : Fin 1024) :
    out0_4 x w s g (ix2 r o) = Spec.product (fun r d => x (ix2 r d)) (fun d o => w (ix2 d o)) (fun o => s (ix2 0 o)) r o := by
  unfold out0_4
  canon_tiles y h
  idx_vars y
  obtain rfl := Fin.ext h0
  obtain rfl := Fin.ext h1
  pointwise [k0_pay1, k0_pay2, k0_pay3, k0_pay4, k0_pay5, k0_pay6, k0_pay7, k0_pay8, k0_pay9, Spec.code, Spec.product]

/-- The input gradient of arbitrary operands, entry by entry. -/
theorem out_dx (r : Fin 3072) (d : Fin 6912) :
    out0_5 x w s g (ix2 r d) = Spec.inputGrad (fun r o => g (ix2 r o)) (fun d o => w (ix2 d o)) (fun o => s (ix2 0 o)) r d := by
  unfold out0_5
  canon_tiles y h
  idx_vars y
  obtain rfl := Fin.ext h0
  obtain rfl := Fin.ext h1
  pointwise [k0_pay1, k0_pay2, k0_pay3, k0_pay4, k0_pay5, k0_pay6, k0_pay7, k0_pay8, k0_pay9, Spec.code, Spec.inputGrad]

/-- The weight gradient of arbitrary operands, entry by entry. -/
theorem out_dw (d : Fin 6912) (o : Fin 1024) :
    out0_6 x w s g (ix2 d o) = Spec.weightGrad (fun r d => x (ix2 r d)) (fun r o => g (ix2 r o)) (fun d o => w (ix2 d o)) (fun o => s (ix2 0 o)) d o := by
  unfold out0_6
  canon_tiles y h
  idx_vars y
  obtain rfl := Fin.ext h0
  obtain rfl := Fin.ext h1
  pointwise [k0_pay1, k0_pay2, k0_pay3, k0_pay4, k0_pay5, k0_pay6, k0_pay7, k0_pay8, k0_pay9, Spec.weightGrad]

/-- The codes of arbitrary weights and scales, entry by entry. -/
theorem out_codes (d : Fin 6912) (o : Fin 1024) :
    out0_7 x w s g (ix2 d o) = Spec.code (w (ix2 d o)) (s (ix2 0 o)) := by
  unfold out0_7
  canon_tiles y h
  idx_vars y
  obtain rfl := Fin.ext h0
  obtain rfl := Fin.ext h1
  pointwise [k0_pay1, k0_pay2, k0_pay3, k0_pay4, k0_pay5, k0_pay6, k0_pay7, k0_pay8, k0_pay9, Spec.code]

/-- The product's array. -/
theorem y_array (c : Dev nD) :
    (dats m 0 c).arrAt 4 cfg0.N = fun i => Spec.product (xs m c) (ws m c) (ss m c) (i 0) (i 1) := by
  refine (dats m 0 c).arrAt_eq_of_after_last 4 t0_0 (by decide +kernel) _ fun j => ?_
  blk_simp
  rw [after0_4]
  idx_vars j
  refine (out_y (iblk m c 0 t0_0) (iblk m c 1 t0_0) (iblk m c 2 t0_0) (iblk m c 3 t0_0) j0 j1).trans ?_
  simp only [x_read, w_read, s_read, g_read]

/-- The input gradient's array. -/
theorem dx_array (c : Dev nD) :
    (dats m 0 c).arrAt 5 cfg0.N = fun i => Spec.inputGrad (gs m c) (ws m c) (ss m c) (i 0) (i 1) := by
  refine (dats m 0 c).arrAt_eq_of_after_last 5 t0_0 (by decide +kernel) _ fun j => ?_
  blk_simp
  rw [after0_5]
  idx_vars j
  refine (out_dx (iblk m c 0 t0_0) (iblk m c 1 t0_0) (iblk m c 2 t0_0) (iblk m c 3 t0_0) j0 j1).trans ?_
  simp only [x_read, w_read, s_read, g_read]

/-- The weight gradient's array. -/
theorem dw_array (c : Dev nD) :
    (dats m 0 c).arrAt 6 cfg0.N = fun i => Spec.weightGrad (xs m c) (gs m c) (ws m c) (ss m c) (i 0) (i 1) := by
  refine (dats m 0 c).arrAt_eq_of_after_last 6 t0_0 (by decide +kernel) _ fun j => ?_
  blk_simp
  rw [after0_6]
  idx_vars j
  refine (out_dw (iblk m c 0 t0_0) (iblk m c 1 t0_0) (iblk m c 2 t0_0) (iblk m c 3 t0_0) j0 j1).trans ?_
  simp only [x_read, w_read, s_read, g_read]

/-- The codes' array. -/
theorem codes_array (c : Dev nD) :
    (dats m 0 c).arrAt 7 cfg0.N = fun i => Spec.code (ws m c (i 0) (i 1)) (ss m c (i 1)) := by
  refine (dats m 0 c).arrAt_eq_of_after_last 7 t0_0 (by decide +kernel) _ fun j => ?_
  blk_simp
  rw [after0_7]
  idx_vars j
  refine (out_codes (iblk m c 0 t0_0) (iblk m c 1 t0_0) (iblk m c 2 t0_0) (iblk m c 3 t0_0) j0 j1).trans ?_
  simp only [x_read, w_read, s_read, g_read]

end Cert.ReferenceIdeal.ArrayValue

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelArrays
public import proofs.«01_k».proof.Proof.ReferenceArrays
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- Launched with the same first argument, the two programs read the same inputs. -/
theorem xs_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' (c.tc.loc ReferenceIdeal.main_arg0) = m (c.tc.loc KernelIdeal.main_arg0)) :
    ReferenceIdeal.ArrayValue.xs m' c = KernelIdeal.ArrayValue.xs m c := by
  unfold ReferenceIdeal.ArrayValue.xs KernelIdeal.ArrayValue.xs
  entry_read
  rw [h]
  rfl

/-- Launched with the same second argument, they read the same weights. -/
theorem ws_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' (c.tc.loc ReferenceIdeal.main_arg1) = m (c.tc.loc KernelIdeal.main_arg1)) :
    ReferenceIdeal.ArrayValue.ws m' c = KernelIdeal.ArrayValue.ws m c := by
  unfold ReferenceIdeal.ArrayValue.ws KernelIdeal.ArrayValue.ws
  entry_read
  rw [h]

/-- Launched with the same third argument, they read the same scales. -/
theorem ss_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' (c.tc.loc ReferenceIdeal.main_arg2) = m (c.tc.loc KernelIdeal.main_arg2)) :
    ReferenceIdeal.ArrayValue.ss m' c = KernelIdeal.ArrayValue.ss m c := by
  unfold ReferenceIdeal.ArrayValue.ss KernelIdeal.ArrayValue.ss
  entry_read
  rw [h]
  funext o
  pointwise

/-- Launched with the same fourth argument, they read the same upstream gradient. -/
theorem gs_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' (c.tc.loc ReferenceIdeal.main_arg3) = m (c.tc.loc KernelIdeal.main_arg3)) :
    ReferenceIdeal.ArrayValue.gs m' c = KernelIdeal.ArrayValue.gs m c := by
  unfold ReferenceIdeal.ArrayValue.gs KernelIdeal.ArrayValue.gs
  entry_read
  rw [h]
  rfl

open KernelIdeal.ArrayValue in
/-- The three programs run to the end leaving their arguments alone, the rounding kernel's run carries over to the extended reals, and there the kernel and
    the reference, launched with the same arguments, leave the same product, input gradient, weight gradient and codes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, by
  intro m g m' g' _ hargs
  refine ⟨fun c i => Spec.product (xs m c) (ws m c) (ss m c) (i 0) (i 1),
    fun c i => Spec.inputGrad (gs m c) (ws m c) (ss m c) (i 0) (i 1),
    fun c i => Spec.weightGrad (xs m c) (gs m c) (ws m c) (ss m c) (i 0) (i 1),
    fun c i => Spec.code (ws m c (i 0) (i 1)) (ss m c (i 1)), ?_, ?_⟩
  · refine (θ_run _ _ _).mono (fun r h c => ?_) (KernelIdeal.Value.run_blocks m g)
    obtain ⟨h0, h1, h2, h3, h4⟩ := h c
    exact ⟨h0.trans (y_array m c), h1.trans (dx_array m c), h2.trans (dw_array m c), h3.trans (codes_array m c), h4⟩
  · refine (θ_run _ _ _).mono (fun r h c => ?_) (ReferenceIdeal.Value.run_blocks m' g')
    obtain ⟨h0, h1, h2, h3, h4⟩ := h c
    obtain ⟨a0, a1, a2, a3⟩ := hargs c
    have ex := xs_agree m m' c a0
    have ew := ws_agree m m' c a1
    have es := ss_agree m m' c a2
    have eg := gs_agree m m' c a3
    refine ⟨h0.trans ((ReferenceIdeal.ArrayValue.y_array m' c).trans ?_), h1.trans ((ReferenceIdeal.ArrayValue.dx_array m' c).trans ?_),
      h2.trans ((ReferenceIdeal.ArrayValue.dw_array m' c).trans ?_), h3.trans ((ReferenceIdeal.ArrayValue.codes_array m' c).trans ?_), h4⟩
    · rw [ex, ew, es]; rfl
    · rw [eg, ew, es]; rfl
    · rw [ex, eg, ew, es]; rfl
    · rw [ew, es]; rfl⟩

end Cert.Proof

end
